-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x28672 : Shape := ⟨3, ![2, 2048, 28672]⟩
abbrev S2x2048x1 : Shape := ⟨3, ![2, 2048, 1]⟩
abbrev S28672x8192 : Shape := ⟨2, ![28672, 8192]⟩
abbrev S1x8192 : Shape := ⟨2, ![1, 8192]⟩
abbrev S2x2048x8192 : Shape := ⟨3, ![2, 2048, 8192]⟩
abbrev S4096x28672 : Shape := ⟨2, ![4096, 28672]⟩
abbrev S4096x1 : Shape := ⟨2, ![4096, 1]⟩
abbrev S4096x8192 : Shape := ⟨2, ![4096, 8192]⟩
abbrev S1024x4096 : Shape := ⟨2, ![1024, 4096]⟩
abbrev S1024x1 : Shape := ⟨2, ![1024, 1]⟩
abbrev S4096x2048 : Shape := ⟨2, ![4096, 2048]⟩
abbrev S1x2048 : Shape := ⟨2, ![1, 2048]⟩
abbrev S1024x2048 : Shape := ⟨2, ![1024, 2048]⟩

abbrev nBuf : Space → Nat
  | .hbm => 10
  | .vmem => 13
  | .smem => 0
  | _ => 0

abbrev bufTy : (tb : Table) → Fin (tcTables nBuf tb) → BufTy
  | .hbm, ⟨0, _⟩ => ⟨S2x2048x28672, .fp8e4m3⟩
  | .hbm, ⟨1, _⟩ => ⟨S2x2048x1, .f32⟩
  | .hbm, ⟨2, _⟩ => ⟨S28672x8192, .fp8e4m3⟩
  | .hbm, ⟨3, _⟩ => ⟨S1x8192, .f32⟩
  | .hbm, ⟨4, _⟩ => ⟨S2x2048x8192, .bf16⟩
  | .hbm, ⟨5, _⟩ => ⟨S4096x28672, .fp8e4m3⟩
  | .hbm, ⟨6, _⟩ => ⟨S4096x1, .f32⟩
  | .hbm, ⟨7, _⟩ => ⟨S4096x8192, .bf16⟩
  | .hbm, ⟨8, _⟩ => ⟨S4096x8192, .bf16⟩
  | .hbm, ⟨9, _⟩ => ⟨S2x2048x8192, .bf16⟩
  | .local _ .vmem, ⟨0, _⟩ => ⟨S1024x4096, .fp8e4m3⟩
  | .local _ .vmem, ⟨1, _⟩ => ⟨S1024x4096, .fp8e4m3⟩
  | .local _ .vmem, ⟨2, _⟩ => ⟨S1024x1, .f32⟩
  | .local _ .vmem, ⟨3, _⟩ => ⟨S1024x1, .f32⟩
  | .local _ .vmem, ⟨4, _⟩ => ⟨S4096x2048, .fp8e4m3⟩
  | .local _ .vmem, ⟨5, _⟩ => ⟨S4096x2048, .fp8e4m3⟩
  | .local _ .vmem, ⟨6, _⟩ => ⟨S1x2048, .f32⟩
  | .local _ .vmem, ⟨7, _⟩ => ⟨S1x2048, .f32⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x2048, .bf16⟩
  | .local _ .vmem, ⟨12, _⟩ => ⟨S1024x2048, .f32⟩
  | _, _ => ⟨S2x2048x28672, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 7], ![false, false, false]⟩

def k0_cond2 (i : grid0.Coords) : BitVec 1 :=
  let arg2 : BitVec 32 := BitVec.ofNat 32 (i 2).val
  let c6_i32 : BitVec 32 := 6#32
  let v12 : BitVec 1 := Scalar.cmpi .eq arg2 c6_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S4096x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S2x2048x28672 : Shape := ⟨3, ![2, 2048, 28672]⟩
abbrev S2x2048x1 : Shape := ⟨3, ![2, 2048, 1]⟩
abbrev S28672x8192 : Shape := ⟨2, ![28672, 8192]⟩
abbrev S1x8192 : Shape := ⟨2, ![1, 8192]⟩
abbrev S2x2048x8192 : Shape := ⟨3, ![2, 2048, 8192]⟩
abbrev S1x1x8192 : Shape := ⟨3, ![1, 1, 8192]⟩

abbrev nBuf : Space → Nat
  | .hbm => 6
  | .vmem => 6
  | .smem => 0
  | _ => 0

abbrev bufTy : (tb : Table) → Fin (tcTables nBuf tb) → BufTy
  | .hbm, ⟨0, _⟩ => ⟨S2x2048x28672, .fp8e4m3⟩
  | .hbm, ⟨1, _⟩ => ⟨S2x2048x1, .f32⟩
  | .hbm, ⟨2, _⟩ => ⟨S28672x8192, .fp8e4m3⟩
  | .hbm, ⟨3, _⟩ => ⟨S1x8192, .f32⟩
  | .hbm, ⟨4, _⟩ => ⟨S2x2048x8192, .bf16⟩
  | .hbm, ⟨5, _⟩ => ⟨S2x2048x8192, .bf16⟩
  | .local _ .vmem, ⟨0, _⟩ => ⟨S2x2048x28672, .fp8e4m3⟩
  | .local _ .vmem, ⟨1, _⟩ => ⟨S2x2048x1, .f32⟩
  | .local _ .vmem, ⟨2, _⟩ => ⟨S28672x8192, .fp8e4m3⟩
  | .local _ .vmem, ⟨3, _⟩ => ⟨S1x8192, .f32⟩
  | .local _ .vmem, ⟨4, _⟩ => ⟨S2x2048x8192, .bf16⟩
  | .local _ .vmem, ⟨5, _⟩ => ⟨S2x2048x8192, .bf16⟩
  | _, _ => ⟨S2x2048x28672, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x2048x28672 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S28672x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x2048x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x2048x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Cases.lean ====
/-
  WHAT ONE GRID POINT COMPUTES. The kernel's body has three cases, by the position `k` of the point along the
  contraction axis of the grid: A at the first of the seven positions (the accumulator is reset, then added to), B at
  the middle ones (added to), C at the last (added to, then the output block is written). Each theorem says what a case
  leaves in the accumulator, or in the output block, as one of the kernel's own named expressions (`k0_payN`) of what
  it found: the input blocks `x0` (activations), `x1` (activation scales), `x2` (weights), `x3` (weight scales), `x4`
  (residual), and the accumulator `xs0`.
-/
module

public import proofs.«01_k».proof.Proof.Gen.KernelIdeal.Frame
public import Idealize.ShloMosaic.Lib.Pipeline.Value
public import Idealize.ShloMosaic.Lib.Tactic

@[expose] public section

noncomputable section

namespace Cert.KernelIdeal.Value

open Cert.KernelIdeal Cert.KernelIdeal.Gen Idealize.ShloMosaic Idealize.ShloMosaic.TcCoe Idealize.SL.Sem

variable {F : FTy → Type} [FloatOps F]

/-- The offsets of a whole block are all zero. -/
theorem hz : (![0, 0] : Fin 2 → Nat) = fun _ => 0 := funext fun a => by fin_cases a <;> rfl

variable (c : Dev nD) (i : grid0.Coords)
  (arg3 : Memref sig .tc .vmem S1024x4096 .fp8e4m3) (harg3 : arg3.IsWhole)
  (arg4 : Memref sig .tc .vmem S1024x1 .f32) (harg4 : arg4.IsWhole)
  (arg5 : Memref sig .tc .vmem S4096x2048 .fp8e4m3) (harg5 : arg5.IsWhole)
  (arg6 : Memref sig .tc .vmem S1x2048 .f32) (harg6 : arg6.IsWhole)
  (arg7 : Memref sig .tc .vmem S1024x2048 .bf16) (harg7 : arg7.IsWhole)
  (arg8 : Memref sig .tc .vmem S1024x2048 .bf16) (harg8 : arg8.IsWhole)
  (arg9 : Memref sig .tc .vmem S1024x2048 .f32) (harg9 : arg9.IsWhole)
  (x0 : Vec F S1024x4096 .fp8e4m3) (x1 : Vec F S1024x1 .f32) (x2 : Vec F S4096x2048 .fp8e4m3)
  (x3 : Vec F S1x2048 .f32) (x4 : Vec F S1024x2048 .bf16) (xs0 : Vec F S1024x2048 .f32)

/-- Case A (first position): the accumulator ends as the zero block plus the product of the two input blocks. -/
theorem sout_A (hc0 : cond0_0 i) (hc1 : ¬cond0_1 i) :
    sout0_A_0 c i arg3 harg3 arg4 harg4 arg5 harg5 arg6 harg6 arg7 harg7 arg8 harg8 arg9 harg9 hc0 hc1 x0 x1 x2 x3 x4
      = k0_pay2 (k0_pay1 (F := F)) x0 x2 := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x2048) hz, View.readCov_unit_zero (S := S1024x2048) _ hz]
  simp only [View.readAt_eq_ld, harg3.read_unread, harg5.read_unread, View.ld_unit_zero (S := S1024x4096) hz, View.ld_unit_zero (S := S4096x2048) hz]

/-- Case B (middle positions): the product of the two input blocks is added to the accumulator. -/
theorem sout_B (hc0 : ¬cond0_0 i) (hc1 : ¬cond0_1 i) :
    sout0_B_0 c i arg3 harg3 arg4 harg4 arg5 harg5 arg6 harg6 arg7 harg7 arg8 harg8 arg9 harg9 hc0 hc1 x0 x1 x2 x3 x4 xs0
      = k0_pay2 xs0 x0 x2 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  rw [View.canon_unit_zero hz]
  simp only [View.readAt_eq_ld, harg3.read_unread, harg5.read_unread, harg9.read_unread, View.ld_unit_zero (S := S1024x4096) hz, View.ld_unit_zero (S := S4096x2048) hz, View.ld_unit_zero (S := S1024x2048) hz]

/-- Case C (last position): the product of the two input blocks is added to the accumulator here too. -/
theorem sout_C (hc0 : ¬cond0_0 i) (hc1 : cond0_1 i) :
    sout0_C_0 c i arg3 harg3 arg4 harg4 arg5 harg5 arg6 harg6 arg7 harg7 arg8 harg8 arg9 harg9 hc0 hc1 x0 x1 x2 x3 x4 xs0
      = k0_pay2 xs0 x0 x2 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz]
  simp only [View.readAt_eq_ld, harg3.read_unread, harg5.read_unread, harg9.read_unread, View.ld_unit_zero (S := S1024x4096) hz, View.ld_unit_zero (S := S4096x2048) hz, View.ld_unit_zero (S := S1024x2048) hz]

/-- Case C (last position): the output block is the finished accumulator, scaled by the two scales, plus the residual. -/
theorem out_C (hc0 : ¬cond0_0 i) (hc1 : cond0_1 i) :
    out0_C_5 c i arg3 harg3 arg4 harg4 arg5 harg5 arg6 harg6 arg7 harg7 arg8 harg8 arg9 harg9 hc0 hc1 x0 x1 x2 x3 x4 xs0
      = k0_pay3 (k0_pay2 xs0 x0 x2) x1 x3 x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz, View.readCov_unit_zero (S := S1024x2048) _ hz]
  simp only [View.readAt_eq_ld, harg3.read_unread, harg4.read_unread, harg5.read_unread, harg6.read_unread, harg7.read_unread, harg9.read_unread, View.ld_unit_zero (S := S1024x4096) hz, View.ld_unit_zero (S := S4096x2048) hz, View.ld_unit_zero (S := S1024x2048) hz, View.ld_unit_zero (S := S1024x1) hz, View.ld_unit_zero (S := S1x2048) hz]

end Cert.KernelIdeal.Value

end
-- ==== Proof.Payloads.lean ====
/-
  THE PROGRAMS' EXPRESSIONS, READ AT ONE INDEX over the extended reals: the kernel's three named expressions and the
  reference's one, each as sums and products of elements of its operands. A change of float format is the identity here.
-/
module

public import proofs.«01_k».proof.Proof.Gen.KernelIdeal.Skeleton
public import proofs.«01_k».proof.Proof.Gen.ReferenceIdeal.Skeleton
public import Idealize.ShloMosaic.Lib.Pointwise

@[expose] public section

set_option maxRecDepth 16384

noncomputable section

namespace Cert.DownProj

open Idealize.ShloMosaic

/-- The block the accumulator is reset to is zero everywhere. -/
theorem reset_apply (r : Fin 1024) (n : Fin 2048) :
    Cert.KernelIdeal.Gen.k0_pay1 (F := Ideal) (ix2 r n) = (0 : EReal) := by
  pointwise [Cert.KernelIdeal.Gen.k0_pay1]

/-- The accumulation step adds, to the accumulator at (`r`, `n`), row `r` of the activations' block times column `n` of
    the weights' block. -/
theorem step_apply (acc : Vec Ideal Cert.KernelIdeal.S1024x2048 .f32) (x : Vec Ideal Cert.KernelIdeal.S1024x4096 .fp8e4m3)
    (w : Vec Ideal Cert.KernelIdeal.S4096x2048 .fp8e4m3) (r : Fin 1024) (n : Fin 2048) :
    (Cert.KernelIdeal.Gen.k0_pay2 (F := Ideal) acc x w (ix2 r n) : EReal)
      = (acc (ix2 r n) : EReal) + ∑ k : Fin 4096, (x (ix2 r k) : EReal) * (w (ix2 k n) : EReal) := by
  pointwise [Cert.KernelIdeal.Gen.k0_pay2]

/-- The output block at (`r`, `n`): the accumulator times the row's scale times the column's scale, plus the residual. -/
theorem scale_apply (acc : Vec Ideal Cert.KernelIdeal.S1024x2048 .f32) (xs : Vec Ideal Cert.KernelIdeal.S1024x1 .f32)
    (ws : Vec Ideal Cert.KernelIdeal.S1x2048 .f32) (res : Vec Ideal Cert.KernelIdeal.S1024x2048 .bf16) (r : Fin 1024) (n : Fin 2048) :
    (Cert.KernelIdeal.Gen.k0_pay3 (F := Ideal) acc xs ws res (ix2 r n) : EReal)
      = (acc (ix2 r n) : EReal) * (xs (ix2 r 0) : EReal) * (ws (ix2 0 n) : EReal) + (res (ix2 r n) : EReal) := by
  pointwise [Cert.KernelIdeal.Gen.k0_pay3]

/-- The down projection: activations times weights, the sum scaled by the token's and the channel's scale, plus the residual. -/
def downProj (x : (⟨3, ![2, 2048, 28672]⟩ : Shape).Idx → EReal) (xs : (⟨3, ![2, 2048, 1]⟩ : Shape).Idx → EReal)
    (w : (⟨2, ![28672, 8192]⟩ : Shape).Idx → EReal) (ws : (⟨2, ![1, 8192]⟩ : Shape).Idx → EReal)
    (res : (⟨3, ![2, 2048, 8192]⟩ : Shape).Idx → EReal) (b : Fin 2) (s : Fin 2048) (n : Fin 8192) : EReal :=
  (∑ k : Fin 28672, x (ix3 b s k) * w (ix2 k n)) * xs (ix3 b s 0) * ws (ix2 0 n) + res (ix3 b s n)

/-- The reference's expression, at every index, is the down projection. -/
theorem reference_apply (x : Vec Ideal Cert.ReferenceIdeal.S2x2048x28672 .fp8e4m3) (xs : Vec Ideal Cert.ReferenceIdeal.S2x2048x1 .f32)
    (w : Vec Ideal Cert.ReferenceIdeal.S28672x8192 .fp8e4m3) (ws : Vec Ideal Cert.ReferenceIdeal.S1x8192 .f32)
    (res : Vec Ideal Cert.ReferenceIdeal.S2x2048x8192 .bf16) (b : Fin 2) (s : Fin 2048) (n : Fin 8192) :
    (Cert.ReferenceIdeal.Gen.k0_pay1 (F := Ideal) x w xs ws res (ix3 b s n) : EReal) = downProj x xs w ws res b s n := by
  unfold downProj
  pointwise [Cert.ReferenceIdeal.Gen.k0_pay1]

end Cert.DownProj

end
-- ==== Proof.Blocks.lean ====
/-
  WHICH ELEMENTS A GRID POINT SEES. Point `t` of the 112 has the coordinates (`t / 28`, `t / 7 % 4`, `t % 7`): a block of
  1024 rows, a block of 2048 columns, and one of the seven stretches of 4096 of the contraction axis. The theorems give an
  element of each of the five input blocks as an element of the launched argument. The kernel first lays the two leading
  axes of the activations, their scales and the residual out as one axis of 4096 rows; row `R` of it is the token
  (`R / 2048`, `R % 2048`).
-/
module

public import proofs.«01_k».proof.Proof.Payloads
public import proofs.«01_k».proof.Proof.Gen.KernelIdeal.Frame
public import Idealize.ShloMosaic.Lib.Pipeline.Value
public import Idealize.ShloMosaic.Lib.Claim

@[expose] public section

set_option maxRecDepth 16384

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ) (c : Dev nD)

/-- The launched activations. -/
abbrev argX : (⟨3, ![2, 2048, 28672]⟩ : Shape).Idx → EReal := m ((c : Thread nD τ).loc main_arg0)
/-- The launched activation scales, one per token. -/
abbrev argXs : (⟨3, ![2, 2048, 1]⟩ : Shape).Idx → EReal := m ((c : Thread nD τ).loc main_arg1)
/-- The launched weights. -/
abbrev argW : (⟨2, ![28672, 8192]⟩ : Shape).Idx → EReal := m ((c : Thread nD τ).loc main_arg2)
/-- The launched weight scales, one per output channel. -/
abbrev argWs : (⟨2, ![1, 8192]⟩ : Shape).Idx → EReal := m ((c : Thread nD τ).loc main_arg3)
/-- The launched residual. -/
abbrev argRes : (⟨3, ![2, 2048, 8192]⟩ : Shape).Idx → EReal := m ((c : Thread nD τ).loc main_arg4)

/-- The batch entry of row `R`. -/
abbrev batchOf (R : Fin 4096) : Fin 2 := ⟨R.val / 2048, by omega⟩
/-- The sequence position of row `R`. -/
abbrev seqOf (R : Fin 4096) : Fin 2048 := ⟨R.val % 2048, by omega⟩

/-- The flattened activations at row `R` are the launched ones at `R`'s token. -/
theorem V_x (R : Fin 4096) (k : Fin 28672) : (V m c main_v0 (ix2 R k) : EReal) = argX m c (ix3 (batchOf R) (seqOf R) k) := by
  unfold V V0 hostOps0
  simp only [List.flatten_cons, List.flatten_nil, List.append_nil]
  after_results
  pointwise

/-- The flattened activation scales at row `R` are the launched ones at `R`'s token. -/
theorem V_xs (R : Fin 4096) : (V m c main_v1 (ix2 R 0) : EReal) = argXs m c (ix3 (batchOf R) (seqOf R) 0) := by
  unfold V V0 hostOps0
  simp only [List.flatten_cons, List.flatten_nil, List.append_nil]
  after_results
  pointwise

/-- The flattened residual at row `R` is the launched one at `R`'s token. -/
theorem V_res (R : Fin 4096) (n : Fin 8192) : (V m c main_v2 (ix2 R n) : EReal) = argRes m c (ix3 (batchOf R) (seqOf R) n) := by
  unfold V V0 hostOps0
  simp only [List.flatten_cons, List.flatten_nil, List.append_nil]
  after_results
  pointwise

/-- The block indices of the six windows at every grid point. -/
theorem idx_facts : ∀ t : Fin cfg0.N,
    (win0_0.index t (0 : Fin 2) = t.val / 28 ∧ win0_0.index t (1 : Fin 2) = t.val % 7)
    ∧ (win0_1.index t (0 : Fin 2) = t.val / 28 ∧ win0_1.index t (1 : Fin 2) = 0)
    ∧ (win0_2.index t (0 : Fin 2) = t.val % 7 ∧ win0_2.index t (1 : Fin 2) = t.val / 7 % 4)
    ∧ (win0_3.index t (0 : Fin 2) = 0 ∧ win0_3.index t (1 : Fin 2) = t.val / 7 % 4)
    ∧ (win0_4.index t (0 : Fin 2) = t.val / 28 ∧ win0_4.index t (1 : Fin 2) = t.val / 7 % 4)
    ∧ (win0_5.index t (0 : Fin 2) = t.val / 28 ∧ win0_5.index t (1 : Fin 2) = t.val / 7 % 4) :=
  (by decide +kernel : ∀ t : Fin grid0.N, _)

/-- There are 112 grid points. -/
theorem lt_112 (t : Fin cfg0.N) : t.val < 112 := lt_of_lt_of_eq t.isLt (show cfg0.N = 112 from N_0)

/-- The row of the flattened arrays that row `r` of point `t`'s blocks is. -/
abbrev rowAt (t : Fin cfg0.N) (r : Fin 1024) : Fin 4096 := ⟨1024 * (t.val / 28) + r.val, by have := lt_112 t; omega⟩
/-- The output channel that column `n` of point `t`'s blocks is. -/
abbrev colAt (t : Fin cfg0.N) (n : Fin 2048) : Fin 8192 := ⟨2048 * (t.val / 7 % 4) + n.val, by omega⟩
/-- The contraction position that position `k` of point `t`'s blocks is. -/
abbrev posAt (t : Fin cfg0.N) (k : Fin 4096) : Fin 28672 := ⟨4096 * (t.val % 7) + k.val, by omega⟩

/-- Point `t`'s block of the activations. -/
theorem iblk_x (t : Fin cfg0.N) (r : Fin 1024) (k : Fin 4096) :
    (iblk m c 0 t (ix2 r k) : EReal) = argX m c (ix3 (batchOf (rowAt t r)) (seqOf (rowAt t r)) (posAt t k)) := by
  obtain ⟨⟨e0, e1⟩, -⟩ := idx_facts t
  rw [← V_x]
  unfold iblk
  rw [View.read_apply]
  show (V m c main_v0 _ : EReal) = V m c main_v0 _
  congr 1
  funext a; apply Fin.ext
  match a with
  | ⟨0, _⟩ => show win0_0.index t (0 : Fin 2) * 1024 + 1 * r.val = 1024 * (t.val / 28) + r.val; omega
  | ⟨1, _⟩ => show win0_0.index t (1 : Fin 2) * 4096 + 1 * k.val = 4096 * (t.val % 7) + k.val; omega

/-- Point `t`'s block of the activation scales. -/
theorem iblk_xs (t : Fin cfg0.N) (r : Fin 1024) :
    (iblk m c 1 t (ix2 r 0) : EReal) = argXs m c (ix3 (batchOf (rowAt t r)) (seqOf (rowAt t r)) 0) := by
  obtain ⟨-, ⟨e0, e1⟩, -⟩ := idx_facts t
  rw [← V_xs]
  unfold iblk
  rw [View.read_apply]
  show (V m c main_v1 _ : EReal) = V m c main_v1 _
  congr 1
  funext a; apply Fin.ext
  match a with
  | ⟨0, _⟩ => show win0_1.index t (0 : Fin 2) * 1024 + 1 * r.val = 1024 * (t.val / 28) + r.val; omega
  | ⟨1, _⟩ => show win0_1.index t (1 : Fin 2) * 1 + 1 * 0 = 0; omega

/-- Point `t`'s block of the weights. -/
theorem iblk_w (t : Fin cfg0.N) (k : Fin 4096) (n : Fin 2048) :
    (iblk m c 2 t (ix2 k n) : EReal) = argW m c (ix2 (posAt t k) (colAt t n)) := by
  obtain ⟨-, -, ⟨e0, e1⟩, -⟩ := idx_facts t
  unfold iblk
  rw [View.read_apply]
  show (V m c main_arg2 _ : EReal) = _
  rw [V_main_arg2]
  show argW m c _ = argW m c _
  congr 1
  funext a; apply Fin.ext
  match a with
  | ⟨0, _⟩ => show win0_2.index t (0 : Fin 2) * 4096 + 1 * k.val = 4096 * (t.val % 7) + k.val; omega
  | ⟨1, _⟩ => show win0_2.index t (1 : Fin 2) * 2048 + 1 * n.val = 2048 * (t.val / 7 % 4) + n.val; omega

/-- Point `t`'s block of the weight scales. -/
theorem iblk_ws (t : Fin cfg0.N) (n : Fin 2048) :
    (iblk m c 3 t (ix2 0 n) : EReal) = argWs m c (ix2 0 (colAt t n)) := by
  obtain ⟨-, -, -, ⟨e0, e1⟩, -⟩ := idx_facts t
  unfold iblk
  rw [View.read_apply]
  show (V m c main_arg3 _ : EReal) = _
  rw [V_main_arg3]
  show argWs m c _ = argWs m c _
  congr 1
  funext a; apply Fin.ext
  match a with
  | ⟨0, _⟩ => show win0_3.index t (0 : Fin 2) * 1 + 1 * 0 = 0; omega
  | ⟨1, _⟩ => show win0_3.index t (1 : Fin 2) * 2048 + 1 * n.val = 2048 * (t.val / 7 % 4) + n.val; omega

/-- Point `t`'s block of the residual. -/
theorem iblk_res (t : Fin cfg0.N) (r : Fin 1024) (n : Fin 2048) :
    (iblk m c 4 t (ix2 r n) : EReal) = argRes m c (ix3 (batchOf (rowAt t r)) (seqOf (rowAt t r)) (colAt t n)) := by
  obtain ⟨-, -, -, -, ⟨e0, e1⟩, -⟩ := idx_facts t
  rw [← V_res]
  unfold iblk
  rw [View.read_apply]
  show (V m c main_v2 _ : EReal) = V m c main_v2 _
  congr 1
  funext a; apply Fin.ext
  match a with
  | ⟨0, _⟩ => show win0_4.index t (0 : Fin 2) * 1024 + 1 * r.val = 1024 * (t.val / 28) + r.val; omega
  | ⟨1, _⟩ => show win0_4.index t (1 : Fin 2) * 2048 + 1 * n.val = 2048 * (t.val / 7 % 4) + n.val; omega

end Cert.KernelIdeal.Value

end
-- ==== Proof.Result.lean ====
/-
  WHAT THE KERNEL COMPUTES. The accumulator after a grid point is the part of the contraction sum that the stretches so
  far make up (`acc_eq`); after the last stretch it is the whole sum, so the output block is the down projection
  (`out_eq`), the blocks fill the flattened result (`final`), and laying its rows out as (batch, sequence) again gives the
  result array (`tail`, `run`). A sum over the extended reals may be cut and regrouped freely, so no condition on the
  arguments is needed.
-/
module

public import proofs.«01_k».proof.Proof.Cases
public import proofs.«01_k».proof.Proof.Blocks

@[expose] public section

set_option maxRecDepth 16384

noncomputable section

namespace Cert.KernelIdeal.Value

open Cert.KernelIdeal Cert.KernelIdeal.Gen Cert.DownProj Idealize.ShloMosaic Idealize.ShloMosaic.TcCoe Idealize.SL.Sem
open Idealize.ShloMosaic.Pipeline (Dat)

variable (m : (ℓ : Loc nD τ sig) → Buf (Elt Ideal) ℓ) (c : Dev nD) (ρ : Dev nD → PrngReg)

/-- Term `k` of the contraction sum of row `R` and channel `N`; zero past the end. -/
def term (R : Fin 4096) (N : Fin 8192) (k : ℕ) : EReal :=
  if h : k < 28672 then argX m c (ix3 (batchOf R) (seqOf R) ⟨k, h⟩) * argW m c (ix2 ⟨k, h⟩ N) else 0

/-- Point `t`'s block of the activations, and of the weights, as functions to the extended reals. -/
abbrev blkX (t : Fin cfg0.N) : (⟨2, ![1024, 4096]⟩ : Shape).Idx → EReal := iblk m c 0 t
abbrev blkW (t : Fin cfg0.N) : (⟨2, ![4096, 2048]⟩ : Shape).Idx → EReal := iblk m c 2 t

/-- The product of point `t`'s two blocks is the stretch of 4096 terms that starts at `4096 * (t % 7)`. -/
theorem block_sum (t : Fin cfg0.N) (r : Fin 1024) (n : Fin 2048) :
    (∑ k : Fin 4096, blkX m c t (ix2 r k) * blkW m c t (ix2 k n))
      = ∑ k ∈ Finset.range 4096, term m c (rowAt t r) (colAt t n) (4096 * (t.val % 7) + k) := by
  rw [Finset.sum_range]
  refine Finset.sum_congr rfl fun k _ => ?_
  rw [term, dif_pos (by omega)]
  exact congrArg₂ (· * ·) (iblk_x m c t r k) (iblk_w m c t k n)

/-- A step at point `t` from an accumulator that holds the terms before the point's stretch gives the terms up to its end. -/
theorem step_sum (t : Fin cfg0.N) (acc : Vec Ideal S1024x2048 .f32) (r : Fin 1024) (n : Fin 2048)
    (h : (acc (ix2 r n) : EReal) = ∑ k ∈ Finset.range (4096 * (t.val % 7)), term m c (rowAt t r) (colAt t n) k) :
    (k0_pay2 (F := Ideal) acc (iblk m c 0 t) (iblk m c 2 t) (ix2 r n) : EReal)
      = ∑ k ∈ Finset.range (4096 * (t.val % 7 + 1)), term m c (rowAt t r) (colAt t n) k := by
  rw [step_apply, h, Nat.mul_add, Nat.mul_one, Finset.sum_range_add, ← block_sum]

/-- What the accumulator holds after point `n`: the terms of the stretches so far, those of the points since the last reset. -/
theorem acc_eq (r : Fin 1024) (n : Fin 2048) : ∀ (p : ℕ) (hp : p < cfg0.N),
    ((outsAt0 m c p hp).2 (ix2 r n) : EReal)
      = ∑ k ∈ Finset.range (4096 * (p % 7 + 1)), term m c (rowAt ⟨p, hp⟩ r) (colAt ⟨p, hp⟩ n) k := by
  intro p
  induction p with
  | zero =>
    intro hp
    rw [outsAt0_A m c ⟨0, hp⟩ rfl (by dsimp only; omega)]
    dsimp only
    rw [sout_A]
    refine step_sum m c ⟨0, hp⟩ _ r n ?_
    rw [reset_apply]; rfl
  | succ p ih =>
    intro hp
    by_cases h0 : (p + 1) % 7 = 0
    · rw [outsAt0_A m c ⟨p + 1, hp⟩ h0 (by dsimp only; omega)]
      dsimp only
      rw [sout_A]
      refine step_sum m c ⟨p + 1, hp⟩ _ r n ?_
      rw [reset_apply]
      dsimp only
      rw [h0]; rfl
    · have hprev : ((outsAt0 m c p (Nat.lt_of_succ_lt hp)).2 (ix2 r n) : EReal)
          = ∑ k ∈ Finset.range (4096 * ((p + 1) % 7)), term m c (rowAt ⟨p + 1, hp⟩ r) (colAt ⟨p + 1, hp⟩ n) k := by
        rw [ih (Nat.lt_of_succ_lt hp), show p % 7 + 1 = (p + 1) % 7 by omega,
          show rowAt ⟨p, Nat.lt_of_succ_lt hp⟩ r = rowAt ⟨p + 1, hp⟩ r from Fin.ext (by dsimp only; omega),
          show colAt ⟨p, Nat.lt_of_succ_lt hp⟩ n = colAt ⟨p + 1, hp⟩ n from Fin.ext (by dsimp only; omega)]
      by_cases h1 : (p + 1) % 7 = 6
      · rw [outsAt0_C m c ⟨p + 1, hp⟩ h0 h1]
        dsimp only
        rw [sout_C]
        exact step_sum m c ⟨p + 1, hp⟩ _ r n hprev
      · rw [outsAt0_B m c ⟨p + 1, hp⟩ h0 h1]
        dsimp only
        rw [sout_B]
        exact step_sum m c ⟨p + 1, hp⟩ _ r n hprev

/-- All 28672 terms make up the contraction sum. -/
theorem sum_term (R : Fin 4096) (N : Fin 8192) : ∑ k ∈ Finset.range 28672, term m c R N k
    = ∑ k : Fin 28672, argX m c (ix3 (batchOf R) (seqOf R) k) * argW m c (ix2 k N) := by
  rw [Finset.sum_range]
  exact Finset.sum_congr rfl fun k _ => dif_pos k.isLt

/-- The down projection of the launched arguments at token (`b`, `s`) and channel `n`. -/
abbrev proj (b : Fin 2) (s : Fin 2048) (n : Fin 8192) : EReal :=
  downProj (argX m c) (argXs m c) (argW m c) (argWs m c) (argRes m c) b s n

/-- At the last stretch the output block holds the down projection. -/
theorem out_eq (t : Fin cfg0.N) (h1 : t.val % 7 = 6) (r : Fin 1024) (n : Fin 2048) :
    ((outsAt0 m c t.val t.isLt).1 (ix2 r n) : EReal)
      = proj m c (batchOf (rowAt t r)) (seqOf (rowAt t r)) (colAt t n) := by
  have hacc := acc_eq m c r n t.val t.isLt
  have h0 : ¬t.val % 7 = 0 := by omega
  rw [outsAt0_C m c t h0 h1] at hacc ⊢
  dsimp only at hacc ⊢
  rw [sout_C] at hacc
  rw [out_C, scale_apply, hacc, h1, sum_term, iblk_xs, iblk_ws, iblk_res]
  rfl

/-- The flattened result: row `R` holds the down projection of `R`'s token. -/
def rows : Buf (Elt Ideal) ((c : Thread nD τ).loc main_v3) :=
  fun i : S4096x8192.Idx => (proj m c (batchOf (i 0)) (seqOf (i 0)) (i 1) : EReal)

/-- What a point writes back is its block of the flattened result. -/
theorem flushed_eq (t : Fin cfg0.N) (hf : (cfg0.win 5).flush t = true) :
    (dats m 0 c).flushed 5 t = ((cfg0.win 5).blk t).view.read (Elt Ideal) (rows m c) := by
  show (cfg0.win 5).cut (grid0.coords t) ((dats m 0 c).after 5 t) = _
  rw [after0_5]
  obtain ⟨-, -, -, -, -, ⟨e0, e1⟩⟩ := idx_facts t
  funext y
  obtain ⟨r, n, rfl⟩ : ∃ (r : Fin 1024) (n : Fin 2048), y = ix2 r n := ⟨y 0, y 1, eq_ix2 y⟩
  rw [View.read_apply]
  have he : ((cfg0.win 5).blk t).view.emb (ix2 r n) = (ix2 (rowAt t r) (colAt t n) : S4096x8192.Idx) := by
    funext a; apply Fin.ext
    match a with
    | ⟨0, _⟩ => show win0_5.index t (0 : Fin 2) * 1024 + 1 * r.val = 1024 * (t.val / 28) + r.val; omega
    | ⟨1, _⟩ => show win0_5.index t (1 : Fin 2) * 2048 + 1 * n.val = 2048 * (t.val / 7 % 4) + n.val; omega
  rw [he]
  have hx : (cfg0.win 5).xinj (grid0.coords t) (ix2 r n) = (ix2 r n : S1024x2048.Idx) := by
    funext a
    match a with
    | ⟨0, _⟩ => rfl
    | ⟨1, _⟩ => rfl
  show (outsAt0 m c t.val t.isLt).1 ((cfg0.win 5).xinj (grid0.coords t) (ix2 r n)) = _
  rw [hx]
  exact out_eq m c t ((flush0_5 t).mp hf) r n

/-- Every index of the flattened result is in the block of a point that writes back. -/
theorem covered (i : S4096x8192.Idx) :
    ∃ t : Fin cfg0.N, (cfg0.win 5).flush t = true ∧ i ∈ ((cfg0.win 5).blk t).view.set := by
  have h0 : (i 0).val < 4096 := (i 0).isLt
  have h1 : (i 1).val < 8192 := (i 1).isLt
  have ht : 28 * ((i 0).val / 1024) + 7 * ((i 1).val / 2048) + 6 < cfg0.N := by
    rw [show cfg0.N = 112 from N_0]; omega
  refine ⟨⟨_, ht⟩, (flush0_5 _).mpr (by dsimp only; omega), ?_⟩
  obtain ⟨-, -, -, -, -, ⟨e0, e1⟩⟩ := idx_facts ⟨_, ht⟩
  dsimp only at e0 e1
  show i ∈ ((View.whole main_v3).slice (win0_5.rect ⟨_, ht⟩)).set
  rw [View.set_slice_whole, Rect.mem_set_unit]
  intro a
  match a with
  | ⟨0, _⟩ => show win0_5.index _ (0 : Fin 2) * 1024 ≤ (i 0).val ∧ (i 0).val < win0_5.index _ (0 : Fin 2) * 1024 + 1024; rw [e0]; omega
  | ⟨1, _⟩ => show win0_5.index _ (1 : Fin 2) * 2048 ≤ (i 1).val ∧ (i 1).val < win0_5.index _ (1 : Fin 2) * 2048 + 2048; rw [e1]; omega

/-- So the kernel's output array ends as the flattened result. -/
theorem final : (dats m 0 c).arrAt 5 cfg0.N = rows m c :=
  (dats m 0 c).arrAt_eq_of_cover 5 (rows m c) (flushed_eq m c) covered

/-- The result: the down projection at every token and channel. -/
def result : Buf (Elt Ideal) ((c : Thread nD τ).loc main_v4) :=
  fun j : S2x2048x8192.Idx => (proj m c (j 0) (j 1) (j 2) : EReal)

/-- The reshape from rows to (batch, sequence) reads, at token (`b`, `s`), row `b * 2048 + s`. -/
theorem reshape_apply (f : S4096x8192.Idx → EReal) (h : S4096x8192.ShapeCasts S2x2048x8192) (b : Fin 2) (s : Fin 2048) (n : Fin 8192) :
    shapeCast S2x2048x8192 f h (ix3 b s n) = f (ix2 ⟨b.val * 2048 + s.val, by omega⟩ n) := by
  pointwise

/-- Laying the rows of the flattened result out as (batch, sequence) gives the result. -/
theorem reshape_rows (h : S4096x8192.ShapeCasts S2x2048x8192) :
    shapeCast S2x2048x8192 (rows m c) h = result m c := by
  funext j
  obtain ⟨b, s, n, rfl⟩ : ∃ (b : Fin 2) (s : Fin 2048) (n : Fin 8192), j = ix3 b s n := ⟨j 0, j 1, j 2, eq_ix3 j⟩
  refine (reshape_apply (rows m c) h b s n).trans ?_
  show proj m c (batchOf ⟨b.val * 2048 + s.val, _⟩) (seqOf ⟨b.val * 2048 + s.val, _⟩) n = proj m c b s n
  congr 1 <;> apply Fin.ext <;> dsimp only <;> omega

/-- The operation after the kernel's grid reshapes the output array, so the result array ends as the result. -/
theorem tail : Pipeline.afterTail₀ cfgs (dats m) 0 (V0 m) [hostOps1] c main_v4 = result m c := by
  unfold Pipeline.afterTail₀ hostOps1
  simp only [List.flatten_cons, List.flatten_nil, List.append_nil]
  after_results
  refine Eq.trans ?_ (reshape_rows m c shapeCasts_S4096x8192_S2x2048x8192)
  have e := (Pipeline.withArrays_arr cfg0.spec (by decide) c (V0 m c) (fun w => (dats m 0 c).arrAt w cfg0.N) 5).trans (final m c)
  funext i
  exact congrFun (congrArg (fun x => shapeCast S2x2048x8192 x shapeCasts_S4096x8192_S2x2048x8192) e) i

/-- The kernel runs, its result array ends as the down projection of the launched arguments, and these end unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).2 main_v4 (Pipeline.mem_restRefs_of main_v4 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.Value

end
-- ==== Proof.lean ====
/-
  The proof of `Cert.Claim`: the kernel and the reference run and leave their arguments and every semaphore as they were;
  the idealized kernel is the kernel's own text; and over the extended reals the kernel's result equals the reference's.
  The modules under Proof/ do the work: Payloads (the programs' expressions at one index), Cases (what one grid point
  computes), Blocks (which elements a grid point sees), Result (the kernel's result array).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Result
public import Idealize.ShloMosaic.Adequacy
public import Idealize.ShloMosaic.Init

@[expose] public section

noncomputable section

namespace Cert.Proof

open Idealize.ShloMosaic Idealize.ShloMosaic.TcCoe Idealize.SL.Sem

/-- The reference's expression over the arguments of the kernel is the kernel's result: both are the down projection. -/
theorem reference_eq (m : (ℓ : Loc Cert.KernelIdeal.nD Cert.KernelIdeal.τ Cert.KernelIdeal.sig) → Buf (Elt Ideal) ℓ)
    (c : Dev Cert.KernelIdeal.nD) :
    Cert.ReferenceIdeal.Value.G5 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
      = Cert.KernelIdeal.Value.result m c := by
  funext j
  obtain ⟨b, s, n, rfl⟩ : ∃ (b : Fin 2) (s : Fin 2048) (n : Fin 8192), j = ix3 b s n := ⟨j 0, j 1, j 2, eq_ix3 j⟩
  exact Cert.DownProj.reference_apply _ _ _ _ _ b s n

/-- Over the extended reals the kernel and the reference, run on equal arguments, end with equal results. -/
theorem algebraic : Cert.algebraic_KernelIdeal_ReferenceIdeal := by
  intro m g m' g' _ hargs
  refine ⟨fun c => Cert.KernelIdeal.Value.result m c, Cert.KernelIdeal.Value.run m g, ?_⟩
  refine (θ_run _ _ _).mono (fun r h c => ?_) (Cert.ReferenceIdeal.Value.run (F := Ideal) m' g')
  obtain ⟨hv, hk⟩ := h c
  refine ⟨hv.trans ?_, hk⟩
  obtain ⟨e0, e1, e2, e3, e4⟩ := hargs c
  rw [e0, e1, e2, e3, e4]
  exact reference_eq m c

/-- The five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
